-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x2048x32 : Shape := ⟨3, ![8, 2048, 32]⟩
abbrev S_ : Shape := ⟨0, ![]⟩

class Facts : Prop where
  bcast_S_S8x2048x32 : S_.BroadcastsInDim S8x2048x32 (![] : Fin 0 → Fin S8x2048x32.rank)

variable [Facts]

def fn {F : FTy → Type} [FloatOps F] (main_arg0 : FVec F S8x2048x32 .f32) (main_arg1 : FVec F S8x2048x32 .f32) : IVec S8x2048x32 1 :=
  let main_v0 : FVec F S8x2048x32 .f32 := Host.absf main_arg0
  let main_cst : FVec F S_ .f32 := constant S_ .f32 0x7F800000#32
  let main_v1 : FVec F S8x2048x32 .f32 := broadcastInDim S8x2048x32 ![] bcast_S_S8x2048x32 main_cst
  let main_v2 : IVec S8x2048x32 1 := cmpf .olt main_v0 main_v1
  let main_v3 : FVec F S8x2048x32 .f32 := Host.absf main_arg1
  let main_cst_0 : FVec F S_ .f32 := constant S_ .f32 0x7F800000#32
  let main_v4 : FVec F S8x2048x32 .f32 := broadcastInDim S8x2048x32 ![] bcast_S_S8x2048x32 main_cst_0
  let main_v5 : IVec S8x2048x32 1 := cmpf .olt main_v3 main_v4
  let main_v6 : IVec S8x2048x32 1 := andi main_v2 main_v5
  main_v6
-- ==== Kernel.lean ====
abbrev S8x2048x32 : Shape := ⟨3, ![8, 2048, 32]⟩
abbrev S1x1 : Shape := ⟨2, ![1, 1]⟩
abbrev S1x2048x32 : Shape := ⟨3, ![1, 2048, 32]⟩
abbrev S2048x32 : Shape := ⟨2, ![2048, 32]⟩
abbrev S2048 : Shape := ⟨1, ![2048]⟩
abbrev S1x2048 : Shape := ⟨2, ![1, 2048]⟩
abbrev S1 : Shape := ⟨1, ![1]⟩
abbrev S32x2048 : Shape := ⟨2, ![32, 2048]⟩
abbrev S512x2048 : Shape := ⟨2, ![512, 2048]⟩
abbrev S512x32 : Shape := ⟨2, ![512, 32]⟩
abbrev S512 : Shape := ⟨1, ![512]⟩
abbrev S512x1 : Shape := ⟨2, ![512, 1]⟩
abbrev S1x512 : Shape := ⟨2, ![1, 512]⟩
abbrev S_ : Shape := ⟨0, ![]⟩

abbrev nBuf : Space → Nat
  | .hbm => 4
  | .vmem => 5
  | .smem => 0
  | _ => 0

abbrev bufTy : (tb : Table) → Fin (tcTables nBuf tb) → BufTy
  | .hbm, ⟨0, _⟩ => ⟨S8x2048x32, .f32⟩
  | .hbm, ⟨1, _⟩ => ⟨S8x2048x32, .f32⟩
  | .hbm, ⟨2, _⟩ => ⟨S1x1, .f32⟩
  | .hbm, ⟨3, _⟩ => ⟨S_, .f32⟩
  | .local _ .vmem, ⟨0, _⟩ => ⟨S1x2048x32, .f32⟩
  | .local _ .vmem, ⟨1, _⟩ => ⟨S1x2048x32, .f32⟩
  | .local _ .vmem, ⟨2, _⟩ => ⟨S1x2048x32, .f32⟩
  | .local _ .vmem, ⟨3, _⟩ => ⟨S1x2048x32, .f32⟩
  | .local _ .vmem, ⟨4, _⟩ => ⟨S1x1, .f32⟩
  | _, _ => ⟨S8x2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S8x2048x32 : Shape := ⟨3, ![8, 2048, 32]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S8x2048x2048 : Shape := ⟨3, ![8, 2048, 2048]⟩
abbrev S8x32x2048 : Shape := ⟨3, ![8, 32, 2048]⟩
abbrev S8 : Shape := ⟨1, ![8]⟩
abbrev S8x1x1 : Shape := ⟨3, ![8, 1, 1]⟩

abbrev nBuf : Space → Nat
  | .hbm => 119
  | .vmem => 0
  | .smem => 0
  | _ => 0

abbrev bufTy : (tb : Table) → Fin (tcTables nBuf tb) → BufTy
  | .hbm, ⟨0, _⟩ => ⟨S8x2048x32, .f32⟩
  | .hbm, ⟨1, _⟩ => ⟨S8x2048x32, .f32⟩
  | .hbm, ⟨2, _⟩ => ⟨S8x2048x32, .f32⟩
  | .hbm, ⟨3, _⟩ => ⟨S_, .f32⟩
  | .hbm, ⟨4, _⟩ => ⟨S8x2048, .f32⟩
  | .hbm, ⟨5, _⟩ => ⟨S8x2048x1, .f32⟩
  | .hbm, ⟨6, _⟩ => ⟨S8x2048x32, .f32⟩
  | .hbm, ⟨7, _⟩ => ⟨S_, .f32⟩
  | .hbm, ⟨8, _⟩ => ⟨S8x2048, .f32⟩
  | .hbm, ⟨9, _⟩ => ⟨S8x1x2048, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | .hbm, ⟨13, _⟩ => ⟨S_, .f32⟩
  | .hbm, ⟨14, _⟩ => ⟨S8x2048x32, .f32⟩
  | .hbm, ⟨15, _⟩ => ⟨S8x2048x32, .f32⟩
  | .hbm, ⟨16, _⟩ => ⟨S8x32x2048, .f32⟩
  | .hbm, ⟨17, _⟩ => ⟨S8x2048x2048, .f32⟩
  | .hbm, ⟨18, _⟩ => ⟨S8x2048x2048, .f32⟩
  | .hbm, ⟨19, _⟩ => ⟨S8x2048x2048, .i32⟩
  | .hbm, ⟨20, _⟩ => ⟨S_, .f32⟩
  | .hbm, ⟨21, _⟩ => ⟨S_, .i32⟩
  | .hbm, ⟨22, _⟩ => ⟨S8x2048, .f32⟩
  | .hbm, ⟨23, _⟩ => ⟨S8x2048, .i32⟩
  | .hbm, ⟨24, _⟩ => ⟨S_, .i32⟩
  | .hbm, ⟨25, _⟩ => ⟨S8x2048, .i32⟩
  | .hbm, ⟨26, _⟩ => ⟨S8x2048, .i1⟩
  | .hbm, ⟨27, _⟩ => ⟨S_, .i32⟩
  | .hbm, ⟨28, _⟩ => ⟨S8x2048, .i32⟩
  | .hbm, ⟨29, _⟩ => ⟨S8x2048, .i32⟩
  | .hbm, ⟨30, _⟩ => ⟨S8x2048, .i32⟩
  | .hbm, ⟨31, _⟩ => ⟨S8x2048x1, .i32⟩
  | .hbm, ⟨32, _⟩ => ⟨S8x2048x32, .f32⟩
  | .hbm, ⟨33, _⟩ => ⟨S8x2048x32, .f32⟩
  | .hbm, ⟨34, _⟩ => ⟨S8x2048x32, .f32⟩
  | .hbm, ⟨35, _⟩ => ⟨S_, .f32⟩
  | .hbm, ⟨36, _⟩ => ⟨S8x2048, .f32⟩
  | .hbm, ⟨37, _⟩ => ⟨S8x2048x1, .f32⟩
  | .hbm, ⟨38, _⟩ => ⟨S8x2048x32, .f32⟩
  | .hbm, ⟨39, _⟩ => ⟨S_, .f32⟩
  | .hbm, ⟨40, _⟩ => ⟨S8x2048, .f32⟩
  | .hbm, ⟨41, _⟩ => ⟨S8x1x2048, .f32⟩
  | .hbm, ⟨42, _⟩ => ⟨S8x2048x2048, .f32⟩
  | .hbm, ⟨43, _⟩ => ⟨S8x2048x2048, .f32⟩
  | .hbm, ⟨44, _⟩ => ⟨S8x2048x2048, .f32⟩
  | .hbm, ⟨45, _⟩ => ⟨S_, .f32⟩
  | .hbm, ⟨46, _⟩ => ⟨S8x2048x32, .f32⟩
  | .hbm, ⟨47, _⟩ => ⟨S8x2048x32, .f32⟩
  | .hbm, ⟨48, _⟩ => ⟨S8x32x2048, .f32⟩
  | .hbm, ⟨49, _⟩ => ⟨S8x2048x2048, .f32⟩
  | .hbm, ⟨50, _⟩ => ⟨S8x2048x2048, .f32⟩
  | .hbm, ⟨51, _⟩ => ⟨S8x2048x2048, .i32⟩
  | .hbm, ⟨52, _⟩ => ⟨S_, .f32⟩
  | .hbm, ⟨53, _⟩ => ⟨S_, .i32⟩
  | .hbm, ⟨54, _⟩ => ⟨S8x2048, .f32⟩
  | .hbm, ⟨55, _⟩ => ⟨S8x2048, .i32⟩
  | .hbm, ⟨56, _⟩ => ⟨S_, .i32⟩
  | .hbm, ⟨57, _⟩ => ⟨S8x2048, .i32⟩
  | .hbm, ⟨58, _⟩ => ⟨S8x2048, .i1⟩
  | .hbm, ⟨59, _⟩ => ⟨S_, .i32⟩
  | .hbm, ⟨60, _⟩ => ⟨S8x2048, .i32⟩
  | .hbm, ⟨61, _⟩ => ⟨S8x2048, .i32⟩
  | .hbm, ⟨62, _⟩ => ⟨S8x2048, .i32⟩
  | .hbm, ⟨63, _⟩ => ⟨S8x2048x1, .i32⟩
  | .hbm, ⟨64, _⟩ => ⟨S8x2048x32, .f32⟩
  | .hbm, ⟨65, _⟩ => ⟨S8x2048x32, .f32⟩
  | .hbm, ⟨66, _⟩ => ⟨S_, .i32⟩
  | .hbm, ⟨67, _⟩ => ⟨S_, .f32⟩
  | .hbm, ⟨68, _⟩ => ⟨S8, .f32⟩
  | .hbm, ⟨69, _⟩ => ⟨S8x1x1, .f32⟩
  | .hbm, ⟨70, _⟩ => ⟨S_, .f32⟩
  | .hbm, ⟨71, _⟩ => ⟨S8x1x1, .f32⟩
  | .hbm, ⟨72, _⟩ => ⟨S8x1x1, .f32⟩
  | .hbm, ⟨73, _⟩ => ⟨S8x2048x32, .f32⟩
  | .hbm, ⟨74, _⟩ => ⟨S8x2048x32, .f32⟩
  | .hbm, ⟨75, _⟩ => ⟨S8x2048x32, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S8, .f32⟩
  | .hbm, ⟨81, _⟩ => ⟨S8, .f32⟩
  | .hbm, ⟨82, _⟩ => ⟨S8, .f32⟩
  | .hbm, ⟨83, _⟩ => ⟨S_, .f32⟩
  | .hbm, ⟨84, _⟩ => ⟨S_, .i1⟩
  | .hbm, ⟨85, _⟩ => ⟨S_, .f32⟩
  | .hbm, ⟨86, _⟩ => ⟨S_, .f32⟩
  | .hbm, ⟨87, _⟩ => ⟨S8, .f32⟩
  | .hbm, ⟨88, _⟩ => ⟨S8, .f32⟩
  | .hbm, ⟨89, _⟩ => ⟨S8, .f32⟩
  | .hbm, ⟨90, _⟩ => ⟨S_, .i32⟩
  | .hbm, ⟨91, _⟩ => ⟨S_, .f32⟩
  | .hbm, ⟨92, _⟩ => ⟨S8, .f32⟩
  | .hbm, ⟨93, _⟩ => ⟨S8x1x1, .f32⟩
  | .hbm, ⟨94, _⟩ => ⟨S_, .f32⟩
  | .hbm, ⟨95, _⟩ => ⟨S8x1x1, .f32⟩
  | .hbm, ⟨96, _⟩ => ⟨S8x1x1, .f32⟩
  | .hbm, ⟨97, _⟩ => ⟨S8x2048x32, .f32⟩
  | .hbm, ⟨98, _⟩ => ⟨S8x2048x32, .f32⟩
  | .hbm, ⟨99, _⟩ => ⟨S8x2048x32, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S8, .f32⟩
  | .hbm, ⟨105, _⟩ => ⟨S8, .f32⟩
  | .hbm, ⟨106, _⟩ => ⟨S8, .f32⟩
  | .hbm, ⟨107, _⟩ => ⟨S_, .f32⟩
  | .hbm, ⟨108, _⟩ => ⟨S_, .i1⟩
  | .hbm, ⟨109, _⟩ => ⟨S_, .f32⟩
  | .hbm, ⟨110, _⟩ => ⟨S_, .f32⟩
  | .hbm, ⟨111, _⟩ => ⟨S8, .f32⟩
  | .hbm, ⟨112, _⟩ => ⟨S8, .f32⟩
  | .hbm, ⟨113, _⟩ => ⟨S8, .f32⟩
  | .hbm, ⟨114, _⟩ => ⟨S8, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | _, _ => ⟨S8x2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_call1_v0 : Ref sig .tc := ⟨.hbm, 51, rfl⟩
abbrev main_call1_cst : Ref sig .tc := ⟨.hbm, 52, rfl⟩
abbrev main_call1_c : Ref sig .tc := ⟨.hbm, 53, rfl⟩
abbrev main_call1_v1_0 : Ref sig .tc := ⟨.hbm, 54, rfl⟩
abbrev main_v37 : Ref sig .tc := ⟨.hbm, 55, rfl⟩
abbrev main_c_6 : Ref sig .tc := ⟨.hbm, 56, rfl⟩
abbrev main_v38 : Ref sig .tc := ⟨.hbm, 57, rfl⟩
abbrev main_v39 : Ref sig .tc := ⟨.hbm, 58, rfl⟩
abbrev main_c_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_8 : Ref sig .tc := ⟨.hbm, 66, rfl⟩
abbrev main_call2_call0_cst : Ref sig .tc := ⟨.hbm, 67, rfl⟩
abbrev main_call2_call0_v0 : Ref sig .tc := ⟨.hbm, 68, rfl⟩
abbrev main_call2_call0_v1 : Ref sig .tc := ⟨.hbm, 69, rfl⟩
abbrev main_call2_call0_cst_0 : Ref sig .tc := ⟨.hbm, 70, rfl⟩
abbrev main_call2_call0_v2 : Ref sig .tc := ⟨.hbm, 71, rfl⟩
abbrev main_call2_call0_v3 : Ref sig .tc := ⟨.hbm, 72, rfl⟩
abbrev main_call2_call0_v4 : Ref sig .tc := ⟨.hbm, 73, rfl⟩
abbrev main_call2_call0_v5 : Ref sig .tc := ⟨.hbm, 74, rfl⟩
abbrev main_call2_call0_v6 : Ref sig .tc := ⟨.hbm, 75, rfl⟩
abbrev main_call2_call0_v7 : Ref sig .tc := ⟨.hbm, 76, rfl⟩
abbrev main_call2_call0_cst_1 : Ref sig .tc := ⟨.hbm, 77, rfl⟩
abbrev main_call2_call0_v8 : Ref sig .tc := ⟨.hbm, 78, rfl⟩
abbrev main_call2_call0_cst_2 : Ref sig .tc := ⟨.hbm, 79, rfl⟩
abbrev main_call2_call0_v9 : Ref sig .tc := ⟨.hbm, 80, rfl⟩
abbrev main_call2_call0_v10 : Ref sig .tc := ⟨.hbm, 81, rfl⟩
abbrev main_call2_call0_v11 : Ref sig .tc := ⟨.hbm, 82, rfl⟩
abbrev main_call2_call0_cst_3 : Ref sig .tc := ⟨.hbm, 83, rfl⟩
abbrev main_call2_call0_v12 : Ref sig .tc := ⟨.hbm, 84, rfl⟩
abbrev main_call2_call0_cst_4 : Ref sig .tc := ⟨.hbm, 85, rfl⟩
abbrev main_call2_call0_call0_v0 : Ref sig .tc := ⟨.hbm, 86, rfl⟩
abbrev main_call2_call0_call0_v1 : Ref sig .tc := ⟨.hbm, 87, rfl⟩
abbrev main_call2_v0 : Ref sig .tc := ⟨.hbm, 88, rfl⟩
abbrev main_v46 : Ref sig .tc := ⟨.hbm, 89, rfl⟩
abbrev main_c_9 : Ref sig .tc := ⟨.hbm, 90, rfl⟩
abbrev main_call3_call0_cst : Ref sig .tc := ⟨.hbm, 91, rfl⟩
abbrev main_call3_call0_v0 : Ref sig .tc := ⟨.hbm, 92, rfl⟩
abbrev main_call3_call0_v1 : Ref sig .tc := ⟨.hbm, 93, rfl⟩
abbrev main_call3_call0_cst_0 : Ref sig .tc := ⟨.hbm, 94, rfl⟩
abbrev main_call3_call0_v2 : Ref sig .tc := ⟨.hbm, 95, rfl⟩
abbrev main_call3_call0_v3 : Ref sig .tc := ⟨.hbm, 96, rfl⟩
abbrev main_call3_call0_v4 : Ref sig .tc := ⟨.hbm, 97, rfl⟩
abbrev main_call3_call0_v5 : Ref sig .tc := ⟨.hbm, 98, rfl⟩
abbrev main_call3_call0_v6 : Ref sig .tc := ⟨.hbm, 99, rfl⟩
abbrev main_call3_call0_v7 : Ref sig .tc := ⟨.hbm, 100, rfl⟩
abbrev main_call3_call0_cst_1 : Ref sig .tc := ⟨.hbm, 101, rfl⟩
abbrev main_call3_call0_v8 : Ref sig .tc := ⟨.hbm, 102, rfl⟩
abbrev main_call3_call0_cst_2 : Ref sig .tc := ⟨.hbm, 103, rfl⟩
abbrev main_call3_call0_v9 : Ref sig .tc := ⟨.hbm, 104, rfl⟩
abbrev main_call3_call0_v10 : Ref sig .tc := ⟨.hbm, 105, rfl⟩
abbrev main_call3_call0_v11 : Ref sig .tc := ⟨.hbm, 106, rfl⟩
abbrev main_call3_call0_cst_3 : Ref sig .tc := ⟨.hbm, 107, rfl⟩
abbrev main_call3_call0_v12 : Ref sig .tc := ⟨.hbm, 108, rfl⟩
abbrev main_call3_call0_cst_4 : Ref sig .tc := ⟨.hbm, 109, rfl⟩
abbrev main_call3_call0_call0_v0 : Ref sig .tc := ⟨.hbm, 110, rfl⟩
abbrev main_call3_call0_call0_v1 : Ref sig .tc := ⟨.hbm, 111, rfl⟩
abbrev main_call3_v0 : Ref sig .tc := ⟨.hbm, 112, rfl⟩
abbrev main_v47 : Ref sig .tc := ⟨.hbm, 113, rfl⟩
abbrev main_v48 : Ref sig .tc := ⟨.hbm, 114, rfl⟩
abbrev main_cst_10 : Ref sig .tc := ⟨.hbm, 115, rfl⟩
abbrev main_v49 : Ref sig .tc := ⟨.hbm, 116, rfl⟩
abbrev main_cst_11 : Ref sig .tc := ⟨.hbm, 117, rfl⟩
abbrev main_v50 : Ref sig .tc := ⟨.hbm, 118, rfl⟩

abbrev nD : Nat := 1
abbrev τ : Topo := Topo.v7x

variable {F : FTy → Type} [FloatOps F]
-- ==== Proof.Value.Blocks.lean ====
module

public import proofs.«01_k».proof.Proof.Gen.KernelIdeal.Frame
public import Idealize.ShloMosaic.Lib.Pipeline.ValueKit
public import Idealize.ShloMosaic.Lib.Pointwise

/-! # The kernel's work on one grid point, named

Each of the two directions is split in four blocks of 512 rows. The definitions below name what one block computes, so that
one lemma serves all eight blocks; `loss` composes them into the number a grid point contributes. -/

@[expose] public section

set_option maxRecDepth 16384

noncomputable section

open Idealize.ShloMosaic Idealize.ShloMosaic.TcCoe Idealize.SL.Sem
open Idealize.ShloMosaic.Pipeline (Dat)

namespace Cert.KernelIdeal.Gen

variable {F : FTy → Type} [FloatOps F]

/-- Squared distances of 512 rows to all rows of the other set: `|a|² + |b|² - 2 a·b`. -/
def distBlk (a : FVec F S512x32 .f32) (asq : FVec F S512 .f32) (bt : FVec F S32x2048 .f32) (bs : FVec F S2048 .f32) :
    FVec F S512x2048 .f32 :=
  subf (addf (broadcastTo S512x2048 (shapeCast S512x1 asq shapeCasts_S512_S512x1) broadcasts_S512x1_S512x2048)
      (broadcastTo S512x2048 (shapeCast S1x2048 bs shapeCasts_S2048_S1x2048) broadcasts_S1x2048_S512x2048))
    (mulf (broadcast S512x2048 (Scalar.ofBits .f32 0x40000000#32))
      (matmul dot_S512x32_S32x2048_S512x2048_1_0_0_1_n_n none a bt (constant S512x2048 .f32 0x00000000#32)))

/-- The least entry of each row. -/
def minBlk (d : FVec F S512x2048 .f32) : FVec F S512 .f32 :=
  multiReduction .minimumf [1] S512 d 0x7F800000#32 reduces_S512x2048_S512 (.inl rfl) rfl

/-- The first column that attains the least entry of each row. -/
def idxBlk (d : FVec F S512x2048 .f32) : IVec S512 32 :=
  multiReductionI .minsi [1] S512
    (select (cmpf .oeq d (broadcastTo S512x2048 (shapeCast S512x1 (minBlk d) shapeCasts_S512_S512x1) broadcasts_S512x1_S512x2048))
      (iota .tc S512x2048 32 [1] iota_S512x2048_d1_w32) (broadcast S512x2048 2048#32))
    2147483647#32 reduces_S512x2048_S512 rfl

/-- The entry of `br` at each row's first column: the others are replaced by zero and the row is summed. -/
def pickBlk (d : FVec F S512x2048 .f32) (br : FVec F S2048 .f32) : FVec F S512 .f32 :=
  multiReduction .add [1] S512
    (select (cmpi .eq (iota .tc S512x2048 32 [1] iota_S512x2048_d1_w32)
        (broadcastTo S512x2048 (shapeCast S512x1 (idxBlk d) shapeCasts_S512_S512x1) broadcasts_S512x1_S512x2048))
      (broadcastTo S512x2048 (shapeCast S1x2048 (shapeCast S1x2048 br shapeCasts_S2048_S1x2048) shapeCasts_S1x2048_S1x2048)
        broadcasts_S1x2048_S512x2048)
      (broadcast S512x2048 (Scalar.ofBits .f32 0x00000000#32)))
    0x00000000#32 reduces_S512x2048_S512 (.inl rfl) rfl

/-- The sum of 512 entries. -/
def sumBlk (v : FVec F S512 .f32) : F .f32 :=
  extractAt ![0, 0] (shapeCast S1x1 (multiReduction .add [1] S1 (shapeCast S1x512 v shapeCasts_S512_S1x512) 0x00000000#32
    reduces_S1x512_S1 (.inl rfl) rfl) shapeCasts_S1_S1x1) inpos_S1x1_p0_0

/-- The sum of 2048 entries. -/
def sumAll (v : FVec F S2048 .f32) : F .f32 :=
  extractAt ![0, 0] (shapeCast S1x1 (multiReduction .add [1] S1 (shapeCast S1x2048 v shapeCasts_S2048_S1x2048) 0x00000000#32
    reduces_S1x2048_S1 (.inl rfl) rfl) shapeCasts_S1_S1x1) inpos_S1x1_p0_0

/-- The sum of each row's squares. -/
def sqRows (a : FVec F S2048x32 .f32) : FVec F S2048 .f32 :=
  multiReduction .add [1] S2048 (mulf a a) 0x00000000#32 reduces_S2048x32_S2048 (.inl rfl) rfl

/-- The sum of each row. -/
def sumRows (a : FVec F S2048x32 .f32) : FVec F S2048 .f32 :=
  multiReduction .add [1] S2048 a 0x00000000#32 reduces_S2048x32_S2048 (.inl rfl) rfl

/-- The distances of block 0 of `a` to `b`. -/
def dist0 (a b : FVec F S2048x32 .f32) : FVec F S512x2048 .f32 :=
  distBlk (extractStridedSlice S512x32 ![0, 0] a slices_S2048x32_o0_0_S512x32)
    (extractStridedSlice S512 ![0] (sqRows a) slices_S2048_o0_S512)
    (transpose S32x2048 [1, 0] b transposes_S2048x32_p1_0_S32x2048) (sqRows b)

/-- The distances of block 1 of `a` to `b`. -/
def dist1 (a b : FVec F S2048x32 .f32) : FVec F S512x2048 .f32 :=
  distBlk (extractStridedSlice S512x32 ![512, 0] a slices_S2048x32_o512_0_S512x32)
    (extractStridedSlice S512 ![512] (sqRows a) slices_S2048_o512_S512)
    (transpose S32x2048 [1, 0] b transposes_S2048x32_p1_0_S32x2048) (sqRows b)

/-- The distances of block 2 of `a` to `b`. -/
def dist2 (a b : FVec F S2048x32 .f32) : FVec F S512x2048 .f32 :=
  distBlk (extractStridedSlice S512x32 ![1024, 0] a slices_S2048x32_o1024_0_S512x32)
    (extractStridedSlice S512 ![1024] (sqRows a) slices_S2048_o1024_S512)
    (transpose S32x2048 [1, 0] b transposes_S2048x32_p1_0_S32x2048) (sqRows b)

/-- The distances of block 3 of `a` to `b`. -/
def dist3 (a b : FVec F S2048x32 .f32) : FVec F S512x2048 .f32 :=
  distBlk (extractStridedSlice S512x32 ![1536, 0] a slices_S2048x32_o1536_0_S512x32)
    (extractStridedSlice S512 ![1536] (sqRows a) slices_S2048_o1536_S512)
    (transpose S32x2048 [1, 0] b transposes_S2048x32_p1_0_S32x2048) (sqRows b)

/-- Four block totals accumulated from zero, in the kernel's order. -/
def acc4 (p q r s : F .f32) : F .f32 :=
  Scalar.addf (Scalar.addf (Scalar.addf (Scalar.addf (Scalar.ofBits .f32 0x00000000#32) p) q) r) s

/-- The sum of all squared distances to the nearest row. -/
def sqDir (a b : FVec F S2048x32 .f32) : F .f32 :=
  acc4 (sumBlk (minBlk (dist0 a b))) (sumBlk (minBlk (dist1 a b))) (sumBlk (minBlk (dist2 a b))) (sumBlk (minBlk (dist3 a b)))

/-- The sum of all entries of the nearest rows. -/
def pickDir (a b : FVec F S2048x32 .f32) : F .f32 :=
  acc4 (sumBlk (pickBlk (dist0 a b) (sumRows b))) (sumBlk (pickBlk (dist1 a b) (sumRows b)))
    (sumBlk (pickBlk (dist2 a b) (sumRows b))) (sumBlk (pickBlk (dist3 a b) (sumRows b)))

/-- The standard deviation from the sum of squares `m`, and the sum `t - r`. -/
def stdOf (t m r : F .f32) : F .f32 :=
  Scalar.sqrt (Scalar.maximumf (Scalar.divf (Scalar.subf m (Scalar.divf (Scalar.mulf (Scalar.subf t r) (Scalar.subf t r))
    (Scalar.ofBits .f32 0x47800000#32))) (Scalar.ofBits .f32 0x477FFF00#32)) (Scalar.ofBits .f32 0x00000000#32))

/-- One direction's standard deviation. -/
def stdDir (a b : FVec F S2048x32 .f32) : F .f32 := stdOf (sumAll (sumRows a)) (sqDir a b) (pickDir a b)

/-- What one grid point computes from its two blocks. -/
def loss (x0 x1 : Vec F S1x2048x32 .f32) : F .f32 :=
  Scalar.maximumf (stdDir (shapeCast S2048x32 x0 shapeCasts_S1x2048x32_S2048x32) (shapeCast S2048x32 x1 shapeCasts_S1x2048x32_S2048x32))
    (stdDir (shapeCast S2048x32 x1 shapeCasts_S1x2048x32_S2048x32) (shapeCast S2048x32 x0 shapeCasts_S1x2048x32_S2048x32))

/-- What a grid point stores when the output held `xo`: its loss over eight is added. -/
def step (x0 x1 : Vec F S1x2048x32 .f32) (xo : Vec F S1x1 .f32) : FVec F S1x1 .f32 :=
  addf (shapeCast S1x1 xo shapeCasts_S1x1_S1x1)
    (broadcast S1x1 (Scalar.divf (loss x0 x1) (Scalar.ofBits .f32 0x41000000#32)))

variable (m : (ℓ : Loc nD τ sig) → Buf (Elt F) ℓ) (ρ : Dev nD → PrngReg)

/-- At the first grid point the output is cleared and this point's loss added. -/
theorem outs_first (c : Dev nD) (t : Fin cfg0.N) (h0 : t.val % 8 = 0) :
    outsAt0 m c t.val t.isLt = step (iblk m c 0 t) (iblk m c 1 t) k0_pay1 := by
  rw [outsAt0_A m c t h0]
  frame_out
  rfl

/-- At a later grid point this point's loss is added to what the point before left. -/
theorem outs_next (c : Dev nD) (t : Fin cfg0.N) (h0 : ¬ t.val % 8 = 0) :
    outsAt0 m c t.val t.isLt = step (iblk m c 0 t) (iblk m c 1 t)
      (outsAt0 m c (t.val - 1) (Nat.lt_of_le_of_lt (Nat.sub_le _ _) t.isLt)) := by
  rw [outsAt0_B m c t h0]
  frame_out
  rfl

end Cert.KernelIdeal.Gen
-- ==== Proof.Value.Nearest.lean ====
module

public import Idealize.ShloMosaic.Lib.Pointwise
public import Idealize.ShloMosaic.Lib.WordArith

/-! # Nearest rows and the spread of their differences, over the real numbers

The mathematics both programs compute: to each row of one point set the first nearest row of the other, the standard
deviation of all coordinate differences, and its two expressions (moments, and squared deviations from the mean). -/

@[expose] public section

noncomputable section

open Idealize.ShloMosaic Idealize.ShloMosaic.WordArith

namespace Cert.Nearest

/-- `j` is the first place where `f` is least. -/
def IsFirst {n : ℕ} (f : Fin n → ℝ) (j : Fin n) : Prop := (∀ i, f j ≤ f i) ∧ ∀ i, f i = f j → j ≤ i

/-- A function on a nonempty range has a first place where it is least. -/
theorem exists_first {n : ℕ} (hn : 0 < n) (f : Fin n → ℝ) : ∃ j, IsFirst f j := by
  classical
  obtain ⟨a, -, ha⟩ := Finset.exists_min_image Finset.univ f ⟨⟨0, hn⟩, Finset.mem_univ _⟩
  have hne : (Finset.univ.filter fun i => f i = f a).Nonempty := ⟨a, by simp⟩
  refine ⟨(Finset.univ.filter fun i => f i = f a).min' hne, ?_, ?_⟩
  · intro i
    have := Finset.min'_mem _ hne
    rw [Finset.mem_filter] at this
    rw [this.2]; exact ha i (Finset.mem_univ i)
  · intro i hi
    have := Finset.min'_mem _ hne
    rw [Finset.mem_filter] at this
    exact Finset.min'_le _ _ (by rw [Finset.mem_filter]; exact ⟨Finset.mem_univ _, hi.trans this.2⟩)

/-- The first place where `f`, on 2048 places, is least. -/
def first (f : Fin 2048 → ℝ) : Fin 2048 := (exists_first (by norm_num) f).choose

/-- That place is the first one. -/
theorem first_spec (f : Fin 2048 → ℝ) : IsFirst f (first f) := (exists_first (by norm_num) f).choose_spec

/-- A point set: 2048 rows of 32 coordinates. -/
abbrev Pts := Fin 2048 → Fin 32 → ℝ

/-- The squared distance of two rows, as both programs expand it. -/
def sqd (u v : Fin 32 → ℝ) : ℝ := (∑ k, u k * u k) + (∑ k, v k * v k) - 2 * ∑ k, u k * v k

/-- The expanded form is the sum of the squared coordinate differences. -/
theorem sqd_eq (u v : Fin 32 → ℝ) : sqd u v = ∑ k, (u k - v k) * (u k - v k) := by
  unfold sqd
  rw [Finset.mul_sum, ← Finset.sum_add_distrib, ← Finset.sum_sub_distrib]
  exact Finset.sum_congr rfl fun k _ => by ring

/-- The first row of `Y` nearest to row `i` of `X`. -/
def near (X Y : Pts) (i : Fin 2048) : Fin 2048 := first fun j => sqd (X i) (Y j)

/-- The difference of row `i` and its nearest row. -/
def gap (X Y : Pts) (i : Fin 2048) (k : Fin 32) : ℝ := X i k - Y (near X Y i) k

/-- The standard deviation of all differences: squared deviations from the mean, over one less than their number. -/
def spread (X Y : Pts) : ℝ :=
  Real.sqrt ((∑ i, ∑ k, (gap X Y i k - (∑ i, ∑ k, gap X Y i k) / 65536) * (gap X Y i k - (∑ i, ∑ k, gap X Y i k) / 65536)) / 65535)

/-- The larger of the two directions' standard deviations. -/
def lossOf (X Y : Pts) : ℝ := max (spread X Y) (spread Y X)

/-- Squared deviations from the mean, through the sums of the squares and of the entries. -/
theorem sum_dev (g : Fin 2048 → Fin 32 → ℝ) :
    ∑ i, ∑ k, (g i k - (∑ i, ∑ k, g i k) / 65536) * (g i k - (∑ i, ∑ k, g i k) / 65536)
      = (∑ i, ∑ k, g i k * g i k) - (∑ i, ∑ k, g i k) * (∑ i, ∑ k, g i k) / 65536 := by
  generalize hs : (∑ i, ∑ k, g i k) = s
  have h : ∀ i k, (g i k - s / 65536) * (g i k - s / 65536) = g i k * g i k - (2 * s / 65536) * g i k + s / 65536 * (s / 65536) :=
    fun i k => by ring
  simp only [h, Finset.sum_add_distrib, Finset.sum_sub_distrib, ← Finset.mul_sum, hs, Finset.sum_const, Finset.card_univ,
    Fintype.card_fin, nsmul_eq_mul]
  push_cast; ring

/-- The kernel's expression of the standard deviation, from the moments: the clamp at zero changes nothing. -/
theorem spread_eq (X Y : Pts) :
    Real.sqrt (max (((∑ i, sqd (X i) (Y (near X Y i)))
        - ((∑ i, ∑ k, X i k) - ∑ i, ∑ k, Y (near X Y i) k) * ((∑ i, ∑ k, X i k) - ∑ i, ∑ k, Y (near X Y i) k) / 65536) / 65535) 0)
      = spread X Y := by
  have hs : (∑ i, ∑ k, X i k) - ∑ i, ∑ k, Y (near X Y i) k = ∑ i, ∑ k, gap X Y i k := by
    simp only [gap, Finset.sum_sub_distrib]
  have hm : ∑ i, sqd (X i) (Y (near X Y i)) = ∑ i, ∑ k, gap X Y i k * gap X Y i k :=
    Finset.sum_congr rfl fun i _ => sqd_eq _ _
  rw [hs, hm, ← sum_dev, max_eq_left]
  · rfl
  · exact div_nonneg (Finset.sum_nonneg fun i _ => Finset.sum_nonneg fun k _ => mul_self_nonneg _) (by norm_num)

/-! ## Folds over finite values -/

/-- A sum of real numbers, taken among the extended reals. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The larger of two real numbers, taken among the extended reals. -/
theorem coe_max (a b : ℝ) : max (a : EReal) (b : EReal) = ((max a b : ℝ) : EReal) :=
  (EReal.coe_strictMono.monotone.map_max).symm

/-- The root of a nonnegative real number, taken among the extended reals. -/
theorem coe_sqrt (a : ℝ) (h : 0 ≤ a) : Ideal.sqrt (a : EReal) = ((Real.sqrt a : ℝ) : EReal) := by
  rw [Ideal.sqrt_coe, if_neg (not_lt.mpr h)]

/-- The minimum of finitely many real numbers is the value at the first least place. -/
theorem fold_min {n : ℕ} (f : Fin n → ℝ) (j : Fin n) (h : IsFirst f j) :
    (Finset.univ.fold min (⊤ : EReal) fun i => (f i : EReal)) = (f j : EReal) := by
  apply le_antisymm
  · exact (Finset.fold_min_le _).mpr (.inr ⟨j, Finset.mem_univ _, le_rfl⟩)
  · exact (Finset.le_fold_min _).mpr ⟨le_top, fun i _ => EReal.coe_le_coe_iff.mpr (h.1 i)⟩

/-- The signed minimum of words below `2 ^ 31` is the least of their numbers. -/
theorem toNat_fold_minsi {ι : Type} (s : Finset ι) (g : ι → BitVec 32) (hg : ∀ i, (g i).toNat < 2 ^ 31) (b : BitVec 32)
    (hb : b.toNat < 2 ^ 31) : (s.fold IntOp.minsi b g).toNat = s.fold min b.toNat fun i => (g i).toNat := by
  classical
  have key : (s.fold IntOp.minsi b g).toNat = (s.fold min b.toNat fun i => (g i).toNat) ∧ (s.fold IntOp.minsi b g).toNat < 2 ^ 31 := by
    induction s using Finset.induction_on with
    | empty => simpa using hb
    | insert a s ha ih =>
      rw [Finset.fold_insert ha, Finset.fold_insert ha, toNat_minsi_of_lt _ _ (hg a) ih.2, ih.1]
      exact ⟨rfl, lt_of_le_of_lt (min_le_left _ _) (hg a)⟩
  exact key.1

/-- The least column number among those where `f` attains its least value, the others counting as 2048. -/
theorem fold_idx (f : Fin 2048 → ℝ) (j : Fin 2048) (h : IsFirst f j) :
    (Finset.univ.fold IntOp.minsi 2147483647#32 fun i : Fin 2048 =>
      if (f i : EReal) = (f j : EReal) then BitVec.ofNat 32 i.val else 2048#32) = BitVec.ofNat 32 j.val := by
  have hlt : ∀ i : Fin 2048, (BitVec.ofNat 32 i.val).toNat = i.val := fun i => by
    rw [BitVec.toNat_ofNat, Nat.mod_eq_of_lt (by omega)]
  apply BitVec.eq_of_toNat_eq
  rw [toNat_fold_minsi _ _ _ _ (by decide), hlt]
  · apply le_antisymm
    · exact (Finset.fold_min_le _).mpr (.inr ⟨j, Finset.mem_univ _, by simp [hlt]⟩)
    · refine (Finset.le_fold_min _).mpr ⟨?_, fun i _ => ?_⟩
      · show j.val ≤ 2147483647
        omega
      · split
        · rename_i hi
          rw [hlt]; exact h.2 i (EReal.coe_eq_coe_iff.mp hi)
        · show j.val ≤ 2048
          omega
  · intro i
    split
    · rw [hlt]; omega
    · decide

/-- Two column numbers below 2048 are equal as words exactly when they are equal. -/
theorem ofNat_eq_iff (i j : Fin 2048) : BitVec.ofNat 32 i.val = BitVec.ofNat 32 j.val ↔ i = j := by
  constructor
  · intro h
    have := congrArg BitVec.toNat h
    rw [BitVec.toNat_ofNat, BitVec.toNat_ofNat, Nat.mod_eq_of_lt (by omega), Nat.mod_eq_of_lt (by omega)] at this
    exact Fin.ext this
  · rintro rfl; rfl

/-! ## Literals -/

/-- The word of two. -/
theorem ofBits_two : Ideal.ofBits .f32 0x40000000#32 = ((2 : ℝ) : EReal) := by
  simp [Ideal.ofBits, Ideal.ieee, -EReal.coe_mul]; norm_num

/-- The word of eight. -/
theorem ofBits_eight : Ideal.ofBits .f32 0x41000000#32 = ((8 : ℝ) : EReal) := by
  simp [Ideal.ofBits, Ideal.ieee, -EReal.coe_mul]; norm_num

/-- The word of the number of differences. -/
theorem ofBits_count : Ideal.ofBits .f32 0x47800000#32 = ((65536 : ℝ) : EReal) := by
  simp [Ideal.ofBits, Ideal.ieee, -EReal.coe_mul]; norm_num

/-- The word of one less than the number of differences. -/
theorem ofBits_count_pred : Ideal.ofBits .f32 0x477FFF00#32 = ((65535 : ℝ) : EReal) := by
  simp [Ideal.ofBits, Ideal.ieee, -EReal.coe_mul]; norm_num

/-- The word of positive infinity. -/
theorem ofBits_inf : Ideal.ofBits .f32 0x7F800000#32 = (⊤ : EReal) := by
  simp [Ideal.ofBits, Ideal.ieee]

end Cert.Nearest
-- ==== Proof.Value.KernelLoss.lean ====
module

public import proofs.«01_k».proof.Proof.Value.Blocks
public import proofs.«01_k».proof.Proof.Value.Nearest

/-! # What one grid point of the kernel computes on finite point sets

Each block's distances, least entries, first columns and picked sums are read at a row; the four blocks of a direction then
add up to sums over all 2048 rows, and the point's result is the larger standard deviation. -/

@[expose] public section

set_option maxRecDepth 16384

noncomputable section

open Idealize.ShloMosaic Idealize.ShloMosaic.TcCoe Idealize.SL.Sem
open Cert.Nearest

namespace Cert.KernelIdeal.Gen

/-! ## One block -/

/-- A block's distances, its operands being the rows `U` and the point set `Y`. -/
theorem distBlk_eq (a : FVec Ideal S512x32 .f32) (asq : FVec Ideal S512 .f32) (bt : FVec Ideal S32x2048 .f32)
    (bs : FVec Ideal S2048 .f32) (U : Fin 512 → Fin 32 → ℝ) (Y : Pts)
    (ha : ∀ r k, a (ix2 r k) = ((U r k : ℝ) : EReal)) (hasq : ∀ r, asq (ix1 r) = ((∑ k, U r k * U r k : ℝ) : EReal))
    (hbt : ∀ j k, bt (ix2 k j) = ((Y j k : ℝ) : EReal)) (hbs : ∀ j, bs (ix1 j) = ((∑ k, Y j k * Y j k : ℝ) : EReal))
    (r : Fin 512) (j : Fin 2048) : distBlk a asq bt bs (ix2 r j) = ((sqd (U r) (Y j) : ℝ) : EReal) := by
  pointwise [distBlk]
  rw [hasq, hbs, ofBits_two]
  simp only [ha, hbt, ← EReal.coe_mul]
  rw [coe_sum, ← EReal.coe_mul, ← EReal.coe_add, ← EReal.coe_sub]
  rfl

variable (d : FVec Ideal S512x2048 .f32) (f : Fin 512 → Fin 2048 → ℝ) (hd : ∀ r j, d (ix2 r j) = ((f r j : ℝ) : EReal))
include hd

/-- A row's least entry is the entry at its first least column. -/
theorem minBlk_eq (r : Fin 512) : minBlk d (ix1 r) = ((f r (first (f r)) : ℝ) : EReal) := by
  pointwise [minBlk]
  simp only [hd, ofBits_inf]
  exact fold_min _ _ (first_spec _)

/-- The index found in a row is its first least column. -/
theorem idxBlk_eq (r : Fin 512) : idxBlk d (ix1 r) = BitVec.ofNat 32 (first (f r)).val := by
  pointwise [idxBlk]
  rw [minBlk_eq d f hd r]
  simp only [hd]
  exact fold_idx _ _ (first_spec _)

/-- What a row picks is the entry at its first least column. -/
theorem pickBlk_eq (br : FVec Ideal S2048 .f32) (r : Fin 512) : pickBlk d br (ix1 r) = br (ix1 (first (f r))) := by
  pointwise [pickBlk]
  rw [idxBlk_eq d f hd r]
  have hc : ∀ x : Fin 2048, Scalar.select (IntOp.cmpi .eq (BitVec.ofNat 32 x.val) (BitVec.ofNat 32 (first (f r)).val)) (br (ix1 x)) 0
      = if first (f r) = x then br (ix1 x) else (0 : EReal) := fun x => by
    have hb : (BitVec.ofNat 32 x.val == BitVec.ofNat 32 (first (f r)).val) = decide (first (f r) = x) :=
      decide_eq_decide.mpr ((ofNat_eq_iff x (first (f r))).trans eq_comm)
    simp only [Scalar.select, IntOp.cmpi, hb]
    by_cases h : first (f r) = x <;> simp [h, BitVec.ofBool]
  simp only [hc]
  exact (Finset.sum_ite_eq Finset.univ (first (f r)) fun x => br (ix1 x)).trans (if_pos (Finset.mem_univ _))

omit hd

/-- A block total of finite entries. -/
theorem sumBlk_eq (v : FVec Ideal S512 .f32) (g : Fin 512 → ℝ) (hv : ∀ r, v (ix1 r) = ((g r : ℝ) : EReal)) :
    sumBlk v = ((∑ r, g r : ℝ) : EReal) := by
  pointwise [sumBlk]
  simp only [hv, coe_sum]

/-- A total over all rows of finite entries. -/
theorem sumAll_eq (v : FVec Ideal S2048 .f32) (g : Fin 2048 → ℝ) (hv : ∀ r, v (ix1 r) = ((g r : ℝ) : EReal)) :
    sumAll v = ((∑ r, g r : ℝ) : EReal) := by
  pointwise [sumAll]
  simp only [hv, coe_sum]

/-! ## One direction -/

/-- Row `r` of the block that starts at row `o`. -/
def rowOf (o : ℕ) (h : o + 512 ≤ 2048) (r : Fin 512) : Fin 2048 := ⟨o + r.val, by omega⟩

/-- A sum over four ranges laid end to end. -/
theorem sum_four (n : ℕ) (g : Fin (n + n + n + n) → ℝ) :
    ∑ i, g i = (∑ r : Fin n, g ⟨r.val, by omega⟩) + (∑ r : Fin n, g ⟨n + r.val, by omega⟩)
      + (∑ r : Fin n, g ⟨n + n + r.val, by omega⟩) + ∑ r : Fin n, g ⟨n + n + n + r.val, by omega⟩ := by
  rw [Fin.sum_univ_add, Fin.sum_univ_add, Fin.sum_univ_add]
  rfl

/-- A sum over all rows is the four blocks' sums. -/
theorem sum_rows (g : Fin 2048 → ℝ) :
    ∑ i, g i = (∑ r, g (rowOf 0 (by norm_num) r)) + (∑ r, g (rowOf 512 (by norm_num) r))
      + (∑ r, g (rowOf 1024 (by norm_num) r)) + ∑ r, g (rowOf 1536 (by norm_num) r) := by
  have h := sum_four 512 g
  simp only [rowOf, Nat.zero_add]
  exact h

/-- Four block totals accumulated from zero are the sum over all rows. -/
theorem acc_rows (p q r s : Ideal .f32) (g : Fin 2048 → ℝ) (hp : p = ((∑ r, g (rowOf 0 (by norm_num) r) : ℝ) : EReal))
    (hq : q = ((∑ r, g (rowOf 512 (by norm_num) r) : ℝ) : EReal)) (hr : r = ((∑ r, g (rowOf 1024 (by norm_num) r) : ℝ) : EReal))
    (hs : s = ((∑ r, g (rowOf 1536 (by norm_num) r) : ℝ) : EReal)) : acc4 (F := Ideal) p q r s = ((∑ i, g i : ℝ) : EReal) := by
  pointwise [acc4]
  rw [sum_rows g, EReal.coe_add, EReal.coe_add, EReal.coe_add, hp, hq, hr, hs]

variable (a b : FVec Ideal S2048x32 .f32) (X Y : Pts) (ha : ∀ i k, a (ix2 i k) = ((X i k : ℝ) : EReal))
  (hb : ∀ i k, b (ix2 i k) = ((Y i k : ℝ) : EReal))

include ha in
/-- The squared lengths of the rows. -/
theorem sqRows_eq (i : Fin 2048) : sqRows a (ix1 i) = ((∑ k, X i k * X i k : ℝ) : EReal) := by
  pointwise [sqRows]
  simp only [ha, ← EReal.coe_mul, coe_sum]

include ha in
/-- The coordinate sums of the rows. -/
theorem sumRows_eq (i : Fin 2048) : sumRows a (ix1 i) = ((∑ k, X i k : ℝ) : EReal) := by
  pointwise [sumRows]
  simp only [ha, coe_sum]

include hb in
/-- The transposed point set, read at an index. -/
theorem transpose_eq (j : Fin 2048) (k : Fin 32) :
    transpose S32x2048 [1, 0] b transposes_S2048x32_p1_0_S32x2048 (ix2 k j) = ((Y j k : ℝ) : EReal) := by
  pointwise []
  exact hb j k

include ha hb

/-- The first block's squared distances. -/
theorem dist0_eq (r : Fin 512) (j : Fin 2048) :
    dist0 a b (ix2 r j) = ((sqd (X (rowOf 0 (by norm_num) r)) (Y j) : ℝ) : EReal) := by
  refine distBlk_eq _ _ _ _ (fun r => X (rowOf 0 (by norm_num) r)) Y (fun r k => ?_) (fun r => ?_)
    (fun j k => transpose_eq b Y hb j k) (sqRows_eq b Y hb) r j
  · pointwise []
    rw [show rowOf 0 (by norm_num) r = ⟨r.val, by omega⟩ from Fin.ext (Nat.zero_add _)]
    exact ha _ k
  · pointwise []
    rw [show rowOf 0 (by norm_num) r = ⟨r.val, by omega⟩ from Fin.ext (Nat.zero_add _)]
    exact sqRows_eq a X ha _

/-- The second block's squared distances. -/
theorem dist1_eq (r : Fin 512) (j : Fin 2048) :
    dist1 a b (ix2 r j) = ((sqd (X (rowOf 512 (by norm_num) r)) (Y j) : ℝ) : EReal) := by
  refine distBlk_eq _ _ _ _ (fun r => X (rowOf 512 (by norm_num) r)) Y (fun r k => ?_) (fun r => ?_)
    (fun j k => transpose_eq b Y hb j k) (sqRows_eq b Y hb) r j
  · pointwise []
    exact ha _ k
  · pointwise []
    exact sqRows_eq a X ha _

/-- The third block's squared distances. -/
theorem dist2_eq (r : Fin 512) (j : Fin 2048) :
    dist2 a b (ix2 r j) = ((sqd (X (rowOf 1024 (by norm_num) r)) (Y j) : ℝ) : EReal) := by
  refine distBlk_eq _ _ _ _ (fun r => X (rowOf 1024 (by norm_num) r)) Y (fun r k => ?_) (fun r => ?_)
    (fun j k => transpose_eq b Y hb j k) (sqRows_eq b Y hb) r j
  · pointwise []
    exact ha _ k
  · pointwise []
    exact sqRows_eq a X ha _

/-- The fourth block's squared distances. -/
theorem dist3_eq (r : Fin 512) (j : Fin 2048) :
    dist3 a b (ix2 r j) = ((sqd (X (rowOf 1536 (by norm_num) r)) (Y j) : ℝ) : EReal) := by
  refine distBlk_eq _ _ _ _ (fun r => X (rowOf 1536 (by norm_num) r)) Y (fun r k => ?_) (fun r => ?_)
    (fun j k => transpose_eq b Y hb j k) (sqRows_eq b Y hb) r j
  · pointwise []
    exact ha _ k
  · pointwise []
    exact sqRows_eq a X ha _

/-- The four blocks' least entries add up to the sum over all rows of the squared distance to the nearest row. -/
theorem sqDir_eq : sqDir a b = ((∑ i, sqd (X i) (Y (near X Y i)) : ℝ) : EReal) := by
  have h0 : sumBlk (minBlk (dist0 a b)) = ((∑ r, sqd (X (rowOf 0 (by norm_num) r)) (Y (near X Y (rowOf 0 (by norm_num) r))) : ℝ) : EReal) :=
    sumBlk_eq _ _ fun r => minBlk_eq _ _ (dist0_eq a b X Y ha hb) r
  have h1 : sumBlk (minBlk (dist1 a b)) = ((∑ r, sqd (X (rowOf 512 (by norm_num) r)) (Y (near X Y (rowOf 512 (by norm_num) r))) : ℝ) : EReal) :=
    sumBlk_eq _ _ fun r => minBlk_eq _ _ (dist1_eq a b X Y ha hb) r
  have h2 : sumBlk (minBlk (dist2 a b)) = ((∑ r, sqd (X (rowOf 1024 (by norm_num) r)) (Y (near X Y (rowOf 1024 (by norm_num) r))) : ℝ) : EReal) :=
    sumBlk_eq _ _ fun r => minBlk_eq _ _ (dist2_eq a b X Y ha hb) r
  have h3 : sumBlk (minBlk (dist3 a b)) = ((∑ r, sqd (X (rowOf 1536 (by norm_num) r)) (Y (near X Y (rowOf 1536 (by norm_num) r))) : ℝ) : EReal) :=
    sumBlk_eq _ _ fun r => minBlk_eq _ _ (dist3_eq a b X Y ha hb) r
  exact acc_rows _ _ _ _ (fun i => sqd (X i) (Y (near X Y i))) h0 h1 h2 h3

/-- The four blocks' picked row sums add up to the sum over all rows of the nearest row's entries. -/
theorem pickDir_eq : pickDir a b = ((∑ i, ∑ k, Y (near X Y i) k : ℝ) : EReal) := by
  have h0 : sumBlk (pickBlk (dist0 a b) (sumRows b)) = ((∑ r, ∑ k, Y (near X Y (rowOf 0 (by norm_num) r)) k : ℝ) : EReal) :=
    sumBlk_eq _ _ fun r => (pickBlk_eq _ _ (dist0_eq a b X Y ha hb) _ r).trans (sumRows_eq b Y hb _)
  have h1 : sumBlk (pickBlk (dist1 a b) (sumRows b)) = ((∑ r, ∑ k, Y (near X Y (rowOf 512 (by norm_num) r)) k : ℝ) : EReal) :=
    sumBlk_eq _ _ fun r => (pickBlk_eq _ _ (dist1_eq a b X Y ha hb) _ r).trans (sumRows_eq b Y hb _)
  have h2 : sumBlk (pickBlk (dist2 a b) (sumRows b)) = ((∑ r, ∑ k, Y (near X Y (rowOf 1024 (by norm_num) r)) k : ℝ) : EReal) :=
    sumBlk_eq _ _ fun r => (pickBlk_eq _ _ (dist2_eq a b X Y ha hb) _ r).trans (sumRows_eq b Y hb _)
  have h3 : sumBlk (pickBlk (dist3 a b) (sumRows b)) = ((∑ r, ∑ k, Y (near X Y (rowOf 1536 (by norm_num) r)) k : ℝ) : EReal) :=
    sumBlk_eq _ _ fun r => (pickBlk_eq _ _ (dist3_eq a b X Y ha hb) _ r).trans (sumRows_eq b Y hb _)
  exact acc_rows _ _ _ _ (fun i => ∑ k, Y (near X Y i) k) h0 h1 h2 h3

/-- One direction's result is its standard deviation. -/
theorem stdDir_eq : stdDir a b = ((spread X Y : ℝ) : EReal) := by
  unfold stdDir
  rw [sqDir_eq a b X Y ha hb, pickDir_eq a b X Y ha hb, sumAll_eq _ _ (sumRows_eq a X ha), ← spread_eq]
  pointwise [stdOf]
  rw [ofBits_count, ofBits_count_pred, Ideal.div_coe (by norm_num), Ideal.div_coe (by norm_num), ← EReal.coe_sub, ← EReal.coe_mul,
    ← EReal.coe_mul, ← EReal.coe_sub, ← EReal.coe_mul, ← EReal.coe_zero, coe_max, mul_one_div, mul_one_div]
  exact coe_sqrt _ (le_max_right _ _)

omit ha hb

/-- What a grid point computes from two finite point sets is the larger standard deviation. -/
theorem loss_eq (x0 x1 : Vec Ideal S1x2048x32 .f32) (h0 : ∀ i k, x0 (ix3 0 i k) = ((X i k : ℝ) : EReal))
    (h1 : ∀ i k, x1 (ix3 0 i k) = ((Y i k : ℝ) : EReal)) : loss (F := Ideal) x0 x1 = ((lossOf X Y : ℝ) : EReal) := by
  have ha : ∀ i k, shapeCast S2048x32 x0 shapeCasts_S1x2048x32_S2048x32 (ix2 i k) = ((X i k : ℝ) : EReal) := fun i k => by
    pointwise []
    exact h0 i k
  have hb : ∀ i k, shapeCast S2048x32 x1 shapeCasts_S1x2048x32_S2048x32 (ix2 i k) = ((Y i k : ℝ) : EReal) := fun i k => by
    pointwise []
    exact h1 i k
  unfold loss
  rw [stdDir_eq _ _ X Y ha hb, stdDir_eq _ _ Y X hb ha]
  exact coe_max _ _

/-- What a grid point adds to the output, which it holds at its one element. -/
theorem step_eq (x0 x1 : Vec Ideal S1x2048x32 .f32) (h0 : ∀ i k, x0 (ix3 0 i k) = ((X i k : ℝ) : EReal))
    (h1 : ∀ i k, x1 (ix3 0 i k) = ((Y i k : ℝ) : EReal)) (xo : Vec Ideal S1x1 .f32) (j : S1x1.Idx) :
    step (F := Ideal) x0 x1 xo j = xo j + ((lossOf X Y / 8 : ℝ) : EReal) := by
  pointwise [step]
  rw [loss_eq X Y x0 x1 h0 h1, ofBits_eight, Ideal.div_coe (by norm_num), ← EReal.coe_mul]
  congr 2
  ring

end Cert.KernelIdeal.Gen
-- ==== Proof.Value.KernelArray.lean ====
module

public import proofs.«01_k».proof.Proof.Value.KernelLoss
public import Idealize.ShloMosaic.Lib.Pipeline.ValueKit

/-! # What the kernel's output holds after the last grid point

The eight points add their losses over eight to an output cleared at the first; the sum is carried from point to point. -/

@[expose] public section

set_option maxRecDepth 16384

noncomputable section

open Idealize.ShloMosaic Idealize.ShloMosaic.TcCoe Idealize.SL.Sem
open Idealize.ShloMosaic.Pipeline (Dat)
open Cert.Nearest

namespace Cert.KernelIdeal.Gen

/-- The blocks a point reads: its own batch element of each input. -/
theorem idx : ∀ t : Fin cfg0.N, win0_0.index t = ![t.val, 0, 0] ∧ win0_1.index t = ![t.val, 0, 0] :=
  (by decide +kernel : ∀ t : Fin grid0.N, _)

/-- A point's number, as a batch index. -/
def batch (t : Fin cfg0.N) : Fin 8 := ⟨t.val, lt_of_lt_of_eq t.isLt N_0⟩

variable (m : (ℓ : Loc nD τ sig) → Buf (Elt Ideal) ℓ)

/-- The first input's block at a point. -/
theorem iblk0 (c : Dev nD) (t : Fin cfg0.N) (i : Fin 2048) (k : Fin 32) :
    iblk m c 0 t (ix3 0 i k) = m ((c : Thread nD τ).loc main_arg0) (ix3 (batch t) i k) := by
  blk_ext [iblk, V, idx t]
  exact Nat.add_zero _

/-- The second input's block at a point. -/
theorem iblk1 (c : Dev nD) (t : Fin cfg0.N) (i : Fin 2048) (k : Fin 32) :
    iblk m c 1 t (ix3 0 i k) = m ((c : Thread nD τ).loc main_arg1) (ix3 (batch t) i k) := by
  blk_ext [iblk, V, idx t]
  exact Nat.add_zero _

/-- The first grid point clears the output to zero. -/
theorem clear_eq (j : S1x1.Idx) : k0_pay1 (F := Ideal) j = 0 := by pointwise [k0_pay1]

variable (c : Dev nD) (X Y : Fin 8 → Pts)
  (hX : ∀ b i k, m ((c : Thread nD τ).loc main_arg0) (ix3 b i k) = ((X b i k : ℝ) : EReal))
  (hY : ∀ b i k, m ((c : Thread nD τ).loc main_arg1) (ix3 b i k) = ((Y b i k : ℝ) : EReal))

include hX hY

/-- What a point adds: its batch element's loss over eight. -/
theorem point (t : Fin cfg0.N) (xo : Vec Ideal S1x1 .f32) (j : S1x1.Idx) :
    step (F := Ideal) (iblk m c 0 t) (iblk m c 1 t) xo j = xo j + ((lossOf (X (batch t)) (Y (batch t)) / 8 : ℝ) : EReal) :=
  step_eq (X (batch t)) (Y (batch t)) _ _ (fun i k => (iblk0 m c t i k).trans (hX _ i k))
    (fun i k => (iblk1 m c t i k).trans (hY _ i k)) xo j

/-- The output array after the last point: the mean of the eight losses. -/
theorem final : (dats m 0 c).arrAt 2 (cfgs 0).N = fun _ => ((∑ b, lossOf (X b) (Y b) / 8 : ℝ) : EReal) := by
  refine (dats m 0 c).arrAt_eq_of_after_last 2 t0_7 (by decide +kernel) _ fun j => ?_
  blk_simp
  rw [after0_2, Pipeline.eq_sum_fin_of_reset_step_apply_last (fun n h => outsAt0 m c n h) 8 (fun _ => 0)
    (fun p j => ((lossOf (X (batch p)) (Y (batch p)) / 8 : ℝ) : EReal))
    (fun t h j => by rw [outs_first m c t h, point m c X Y hX hY, clear_eq])
    (fun t h j => by rw [outs_next m c t h, point m c X Y hX hY])
    (le_of_eq N_0) t0_7 rfl j, zero_add]
  refine (coe_sum Finset.univ fun p : Fin cfg0.N => lossOf (X (batch p)) (Y (batch p)) / 8).trans (congrArg _ ?_)
  exact Equiv.sum_comp (finCongr N_0) fun b => lossOf (X b) (Y b) / 8

/-- The result, which the host reads off the output's one element. -/
theorem tail : Pipeline.afterTail₀ cfgs (dats m) 0 (V0 m) [hostOps1] c main_v1
    = fun _ => ((∑ b, lossOf (X b) (Y b) / 8 : ℝ) : EReal) := by
  have hf := final m c X Y hX hY
  unfold Pipeline.afterTail₀
  have hW := (Pipeline.withArrays_arr (cfgs 0).spec (by decide) c (V0 m c) (fun w => (dats m 0 c).arrAt w (cfgs 0).N) 2).trans hf
  revert hW
  generalize Pipeline.withArrays (cfgs 0).spec c (V0 m c) (fun w => (dats m 0 c).arrAt w (cfgs 0).N) = W
  intro hW
  show StableHlo.after [StableHlo.reshape main_v0 main_v1 (rfl : (.f32 : EltTy) = .f32) shapeCasts_S1x1_S_] W (Proc.tc.devRef main_v1) = _
  after_results
  funext i
  exact congrFun hW _

omit hX hY in
/-- The kernel's run: on finite inputs its result is the mean of the eight losses. -/
theorem run (ρ : Dev nD → PrngReg) (X Y : Dev nD → Fin 8 → Pts)
    (hX : ∀ (c : Dev nD) b i k, m ((c : Thread nD τ).loc main_arg0) (ix3 b i k) = ((X c b i k : ℝ) : EReal))
    (hY : ∀ (c : Dev nD) b i k, m ((c : Thread nD τ).loc main_arg1) (ix3 b i k) = ((Y c b i k : ℝ) : EReal)) :
    θ_run defs (onTc (τ := τ) (main (F := Ideal))) ⟨m, fun _ => 0, ρ⟩ (fun r => ∀ c : Dev nD,
      r.2.mem ((c.tc : Thread nD τ).loc main_v1) = (fun _ => ((∑ b, lossOf (X c b) (Y c b) / 8 : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, h.2 c⟩) (θ_run_and (run_main m ρ) (unchanged m ρ))
  exact ((h.1 c).2 main_v1 (by decide)).trans (tail m c (X c) (Y c) (hX c) (hY c))

end Cert.KernelIdeal.Gen
-- ==== Proof.Value.RefTerm.lean ====
module

public import proofs.«01_k».proof.Proof.Gen.ReferenceIdeal
public import Idealize.ShloMosaic.Lib.Claim

/-! # The reference's operations, named, and its run

The reference's term is written once per step: distances, first nearest row, gathered differences, standard deviation and
mean. Its run leaves that term in the result. -/

@[expose] public section

set_option maxRecDepth 16384

noncomputable section

open Idealize.ShloMosaic Idealize.ShloMosaic.TcCoe Idealize.SL.Sem

namespace Cert.ReferenceIdeal.Gen

variable {F : FTy → Type} [FloatOps F]

/-- Squared distances of all rows of `x` to all rows of `y`, batch by batch. -/
def distAll (x y : FVec F S8x2048x32 .f32) : FVec F S8x2048x2048 .f32 :=
  subf
    (addf
      (broadcastInDim S8x2048x2048 ![0, 1, 2] bcast_S8x2048x1_S8x2048x2048_0_1_2 (broadcastInDim S8x2048x1 ![0, 1] bcast_S8x2048_S8x2048x1_0_1
        (Host.reduceAdd (mulf x x) (constant S_ .f32 0x00000000#32) reducesTo_S8x2048x32_S8x2048_d2 h_S_)))
      (broadcastInDim S8x2048x2048 ![0, 1, 2] bcast_S8x1x2048_S8x2048x2048_0_1_2 (broadcastInDim S8x1x2048 ![0, 2] bcast_S8x2048_S8x1x2048_0_2
        (Host.reduceAdd (mulf y y) (constant S_ .f32 0x00000000#32) reducesTo_S8x2048x32_S8x2048_d2 h_S_))))
    (Host.dotGeneral dot_S8x2048x32_S8x32x2048_S8x2048x2048_2_1_1_2_0_0 none
      (mulf (broadcastInDim S8x2048x32 ![] bcast_S_S8x2048x32 (constant S_ .f32 0x40000000#32)) x)
      (transpose S8x32x2048 [0, 2, 1] y transposes_S8x2048x32_S8x32x2048_0_2_1))

/-- Each row's first place where `d` is least. -/
def argAll (d : FVec F S8x2048x2048 .f32) : IVec S8x2048 32 := fun j =>
  (Host.argReduce reducer_argmin_f32_i32 d (iotaInDim S8x2048x2048 32 2) (constant S_ .f32 0x7F800000#32) (constantI S_ 32 0#32)
    reducesTo_S8x2048x2048_S8x2048_d2 h_S_ j).2

/-- An index, a negative one counted from the end. -/
def wrapAll (k : IVec S8x2048 32) : IVec S8x2048 32 :=
  select (cmpi .slt k (broadcastInDim S8x2048 ![] bcast_S_S8x2048 (constantI S_ 32 0#32)))
    (addi k (broadcastInDim S8x2048 ![] bcast_S_S8x2048 (constantI S_ 32 2048#32))) k

/-- The rows of `y` that `k` names. -/
def takeAll (y : FVec F S8x2048x32 .f32) (k : IVec S8x2048 32) : FVec F S8x2048x32 .f32 :=
  Host.gather gather_S8x2048x32_S8x2048x1_S8x2048x32_2_1_0_0_1_2_1132 y
    (broadcastInDim S8x2048x1 ![0, 1] bcast_S8x2048_S8x2048x1_0_1 (wrapAll k))

/-- The differences of the rows of `x` and their nearest rows of `y`. -/
def gapAll (x y : FVec F S8x2048x32 .f32) : FVec F S8x2048x32 .f32 := subf x (takeAll y (argAll (distAll x y)))

/-- The deviations from each batch element's mean. -/
def devAll (g : FVec F S8x2048x32 .f32) : FVec F S8x2048x32 .f32 :=
  subf g (broadcastInDim S8x2048x32 ![0, 1, 2] bcast_S8x1x1_S8x2048x32_0_1_2
    (Host.divf (broadcastInDim S8x1x1 ![0] bcast_S8_S8x1x1_0 (Host.reduceAdd g (constant S_ .f32 0x00000000#32) reducesTo_S8x2048x32_S8_d1_2 h_S_))
      (broadcastInDim S8x1x1 ![] bcast_S_S8x1x1 (constant S_ .f32 0x47800000#32))))

/-- One less than the number of differences. -/
def countAll : FVec F S_ .f32 := subf (constant S_ .f32 0x47800000#32) (sitofp .f32 (constantI S_ 32 1#32))

/-- Each batch element's standard deviation. -/
def stdAll (g : FVec F S8x2048x32 .f32) : FVec F S8 .f32 :=
  Host.sqrt (select (broadcastInDim S8 ![] bcast_S_S8 (cmpf .ogt (countAll (F := F)) (constant S_ .f32 0x00000000#32)))
    (Host.divf (Host.reduceAdd (mulf (devAll g) (devAll g)) (constant S_ .f32 0x00000000#32) reducesTo_S8x2048x32_S8_d1_2 h_S_)
      (broadcastInDim S8 ![] bcast_S_S8 countAll))
    (broadcastInDim S8 ![] bcast_S_S8 (constant S_ .f32 0x7FC00000#32)))

/-- The mean over the batch of the larger standard deviation. -/
def meanAll (x y : FVec F S8x2048x32 .f32) : FVec F S_ .f32 :=
  Host.divf (Host.reduceAdd (maximumf (stdAll (gapAll x y)) (stdAll (gapAll y x))) (constant S_ .f32 0x00000000#32) reducesTo_S8_S_d0 h_S_)
    (constant S_ .f32 0x41000000#32)

variable (m : (ℓ : Loc nD τ sig) → Buf (Elt F) ℓ) (g : Dev nD → PrngReg)

set_option maxHeartbeats 3200000 in
/-- The reference's run: its result is the named term of its arguments. -/
theorem run : θ_run (defs (F := F)) (onTc (τ := τ) (main (F := F))) ⟨m, fun _ => 0, g⟩ (fun r => ∀ c : Dev nD,
      r.2.mem ((c.tc : Thread nD τ).loc main_v50)
        = meanAll (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  rfl

/-- The reference runs, leaves its arguments and every counter as they were. -/
theorem frame : θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (run m g)

end Cert.ReferenceIdeal.Gen
-- ==== Proof.Value.RefSearch.lean ====
module

public import proofs.«01_k».proof.Proof.Value.RefTerm
public import proofs.«01_k».proof.Proof.Value.Nearest

/-! # The reference's search for a least entry

A search over pairs of a value and its number, begun at infinity, ends at the first least value. -/

@[expose] public section

set_option maxRecDepth 16384

noncomputable section

open Idealize.ShloMosaic Idealize.ShloMosaic.TcCoe Idealize.SL.Sem
open Cert.Nearest

namespace Cert.ReferenceIdeal.Gen

/-- A fold ends at `t` when `t` wins against every pair, on either side, and is met on the way. -/
theorem foldl_target {α : Type} (step : α → α → α) (S : α → Prop) (t : α) (hl : ∀ s, S s → step s t = t)
    (hr : ∀ s, S s → step t s = t) (hS : ∀ s u, S s → S u → S (step s u)) (L : List α) :
    ∀ a, (∀ p ∈ L, S p) → S a → (t ∈ L ∨ a = t) → L.foldl step a = t := by
  induction L with
  | nil => intro a _ _ h; simpa using h
  | cons p L ih =>
    intro a hL ha h
    have hp := hL p (by simp)
    refine ih (step a p) (fun q hq => hL q (by simp [hq])) (hS a p ha hp) ?_
    rcases h with h | rfl
    · rcases List.mem_cons.mp h with rfl | h
      · exact Or.inr (hl a ha)
      · exact Or.inl h
    · exact Or.inr (hr p hp)

/-- Of two pairs the search keeps the one of the lesser value, of equal values the one of the lesser index. -/
theorem reducer_eq (a b : Ideal .f32 × BitVec 32) :
    reducer_argmin_f32_i32 (F := Ideal) a b = if a.1 < b.1 ∨ (a.1 = b.1 ∧ a.2.slt b.2 = true) then a else b := by
  obtain ⟨u, i⟩ := a
  obtain ⟨v, j⟩ := b
  simp only [reducer_argmin_f32_i32, Ideal.cmpf_def, Ideal.cmp, Scalar.select, IntOp.cmpi, IntOp.ori, IntOp.andi]
  by_cases h1 : u < v
  · simp [h1, h1.ne]
  · by_cases h2 : u = v
    · subst h2
      by_cases h3 : i.slt j = true <;> simp [h3]
    · simp [h1, h2]

/-- A row number as a word, read signed. -/
theorem toInt_row (i : Fin 2048) : (BitVec.ofNat 32 i.val).toInt = (i.val : ℤ) := by
  have h : (BitVec.ofNat 32 i.val).toNat = i.val := by
    rw [BitVec.toNat_ofNat]; exact Nat.mod_eq_of_lt (by omega)
  rw [BitVec.toInt_eq_toNat_of_lt (by rw [h]; omega), h]

/-- Signed comparison of two row numbers. -/
theorem slt_row (i j : Fin 2048) : (BitVec.ofNat 32 i.val).slt (BitVec.ofNat 32 j.val) = decide (i < j) := by
  rw [BitVec.slt, toInt_row, toInt_row]
  exact decide_eq_decide.mpr Nat.cast_lt

/-- The pair of a row's value and its number. -/
def pairOf (f : Fin 2048 → ℝ) (j : Fin 2048) : Ideal .f32 × BitVec 32 := (((f j : ℝ) : EReal), BitVec.ofNat 32 j.val)

/-- Two rows' pairs: the lesser value wins, of equal values the lesser number. -/
theorem reducer_pair (f : Fin 2048 → ℝ) (i j : Fin 2048) :
    reducer_argmin_f32_i32 (F := Ideal) (pairOf f i) (pairOf f j)
      = if f i < f j ∨ (f i = f j ∧ i < j) then pairOf f i else pairOf f j := by
  rw [reducer_eq]
  simp only [pairOf, slt_row, decide_eq_true_eq]
  exact if_congr (or_congr EReal.coe_lt_coe_iff (and_congr EReal.coe_eq_coe_iff Iff.rfl)) rfl rfl

/-- The search over a list that holds every row's pair, begun at infinity, ends at the first least row. -/
theorem foldl_first (f : Fin 2048 → ℝ) (L : List (Ideal .f32 × BitVec 32)) (hL : ∀ p ∈ L, ∃ j, p = pairOf f j)
    (hmem : pairOf f (first f) ∈ L) :
    L.foldl (reducer_argmin_f32_i32 (F := Ideal)) ((⊤ : EReal), 0#32) = pairOf f (first f) := by
  have hs := first_spec f
  have htop : ∀ j, reducer_argmin_f32_i32 (F := Ideal) ((⊤ : EReal), 0#32) (pairOf f j) = pairOf f j := fun j => by
    rw [reducer_eq]
    exact if_neg (by
      rintro (h | ⟨h, -⟩)
      · exact not_top_lt h
      · exact (EReal.coe_ne_top _) h.symm)
  have htop' : ∀ j, reducer_argmin_f32_i32 (F := Ideal) (pairOf f j) ((⊤ : EReal), 0#32) = pairOf f j := fun j => by
    rw [reducer_eq]
    exact if_pos (Or.inl (EReal.coe_lt_top _))
  refine foldl_target _ (fun p => p = ((⊤ : EReal), 0#32) ∨ ∃ j, p = pairOf f j) _ ?_ ?_ ?_ L _ (fun p hp => Or.inr (hL p hp))
    (Or.inl rfl) (Or.inl hmem)
  · rintro s (rfl | ⟨j, rfl⟩)
    · exact htop _
    · rw [reducer_pair]
      split
      · rename_i h
        rcases h with h | ⟨h, hlt⟩
        · exact absurd h (not_lt.mpr (hs.1 j))
        · exact absurd hlt (not_lt.mpr (hs.2 j h))
      · rfl
  · rintro s (rfl | ⟨j, rfl⟩)
    · exact htop' _
    · rw [reducer_pair]
      split
      · rfl
      · rename_i h
        rw [not_or] at h
        have he : f j = f (first f) := le_antisymm (not_lt.mp h.1) (hs.1 j)
        have : ¬ first f < j := fun hlt => h.2 ⟨he.symm, hlt⟩
        rw [le_antisymm (hs.2 j he) (not_lt.mp this)]
  · rintro s u (rfl | ⟨i, rfl⟩) (rfl | ⟨j, rfl⟩)
    · left; rw [reducer_eq]; split <;> rfl
    · right; exact ⟨j, htop j⟩
    · right; exact ⟨i, htop' i⟩
    · right; rw [reducer_pair]; split
      · exact ⟨i, rfl⟩
      · exact ⟨j, rfl⟩

/-- The pairs a search ranges over are those at the indices that drop to its place. -/
theorem mem_fiber {α β : Type} {s t : Shape} {axes : List (Fin s.rank)} (x : s.Idx → α) (y : s.Idx → β) (h : s.ReducesTo axes t)
    (j : t.Idx) (p : α × β) : p ∈ Host.argReduceFiber x y h j ↔ ∃ z, h.drop z = j ∧ (x z, y z) = p := by
  simp only [Host.argReduceFiber, List.mem_map, List.mem_filter, decide_eq_true_eq, List.mem_finRange, true_and]
  exact ⟨fun ⟨n, hn⟩ => ⟨_, hn⟩, fun ⟨z, hz⟩ => ⟨s.rowMajor z, by rwa [Equiv.symm_apply_apply]⟩⟩

/-- A search whose pairs are those of the values `f`, begun at infinity, finds the first least. -/
theorem search_eq {s t u : Shape} {axes : List (Fin s.rank)} (x : FVec Ideal s .f32) (y : s.Idx → BitVec 32) (ix : u.Idx → Ideal .f32)
    (iy : u.Idx → BitVec 32) (h : s.ReducesTo axes t) (hu : 0 < u.numel) (j : t.Idx) (f : Fin 2048 → ℝ)
    (hix : ix (Shape.Idx.first hu) = (⊤ : EReal)) (hiy : iy (Shape.Idx.first hu) = 0#32)
    (hall : ∀ z, h.drop z = j → ∃ r, (x z, y z) = pairOf f r) (hmem : ∃ z, h.drop z = j ∧ (x z, y z) = pairOf f (first f)) :
    Host.argReduce reducer_argmin_f32_i32 x y ix iy h hu j = pairOf f (first f) := by
  rw [Ideal.argReduce_eq_reduce2, Host.reduce2_eq_foldl_fiber, hix, hiy]
  refine foldl_first f _ (fun p hm => ?_) ((mem_fiber _ _ _ _ _).mpr hmem)
  obtain ⟨z, hz, rfl⟩ := (mem_fiber _ _ _ _ _).mp hm
  exact hall z hz

end Cert.ReferenceIdeal.Gen
-- ==== Proof.Value.RefNearest.lean ====
module

public import proofs.«01_k».proof.Proof.Value.RefSearch

/-! # The reference's nearest rows on finite point sets

Its distances are the squared distances, its search finds the first nearest row, and its gather takes that row. -/

@[expose] public section

set_option maxRecDepth 16384

noncomputable section

open Idealize.ShloMosaic Idealize.ShloMosaic.TcCoe Idealize.SL.Sem
open Cert.Nearest

namespace Cert.ReferenceIdeal.Gen

/-! ## The search -/

/-- An entry of the distances belongs to the search of its row. -/
theorem drop_row (b : Fin 8) (i j : Fin 2048) :
    reducesTo_S8x2048x2048_S8x2048_d2.drop (ix3 b i j) = ix2 b i := by
  funext a
  match a with
  | ⟨0, _⟩ => rfl
  | ⟨1, _⟩ => rfl

/-- An index of a row's search lies in that row. -/
theorem mem_row (z : S8x2048x2048.Idx) (b : Fin 8) (i : Fin 2048)
    (hz : reducesTo_S8x2048x2048_S8x2048_d2.drop z = ix2 b i) : ∃ j, z = ix3 b i j := by
  obtain ⟨b', i', j, rfl⟩ : ∃ b' i' j, z = ix3 b' i' j := ⟨z 0, z 1, z 2, ValueIdx.eq_ix3 z⟩
  rw [drop_row] at hz
  obtain rfl : b' = b := congrFun hz 0
  obtain rfl : i' = i := congrFun hz 1
  exact ⟨j, rfl⟩

/-- An entry and its column are a pair of its row's search. -/
theorem pair_row (d : FVec Ideal S8x2048x2048 .f32) (b : Fin 8) (i : Fin 2048) (f : Fin 2048 → ℝ)
    (hd : ∀ j, d (ix3 b i j) = ((f j : ℝ) : EReal)) (j : Fin 2048) :
    (d (ix3 b i j), iotaInDim S8x2048x2048 32 2 (ix3 b i j)) = pairOf f j := by
  rw [hd j]
  rfl

/-- The search's least entry and its column, in each row. -/
theorem argRow_eq (d : FVec Ideal S8x2048x2048 .f32) (b : Fin 8) (i : Fin 2048) (f : Fin 2048 → ℝ)
    (hd : ∀ j, d (ix3 b i j) = ((f j : ℝ) : EReal)) :
    Host.argReduce reducer_argmin_f32_i32 d (iotaInDim S8x2048x2048 32 2) (constant (F := Ideal) S_ .f32 0x7F800000#32)
      (constantI S_ 32 0#32) reducesTo_S8x2048x2048_S8x2048_d2 h_S_ (ix2 b i) = pairOf f (first f) :=
  search_eq _ _ _ _ _ _ (ix2 b i) f ofBits_inf rfl
    (fun z hz => by
      obtain ⟨j, rfl⟩ := mem_row z b i hz
      exact ⟨j, pair_row d b i f hd j⟩)
    ⟨ix3 b i (first f), drop_row b i _, pair_row d b i f hd _⟩

/-- The named search is the second part of each row's pair. -/
theorem argAll_def (d : FVec Ideal S8x2048x2048 .f32) :
    argAll d = fun j => (Host.argReduce reducer_argmin_f32_i32 d (iotaInDim S8x2048x2048 32 2)
      (constant (F := Ideal) S_ .f32 0x7F800000#32) (constantI S_ 32 0#32) reducesTo_S8x2048x2048_S8x2048_d2 h_S_ j).2 := rfl

/-- The search finds each row's first least entry. -/
theorem argAll_eq (d : FVec Ideal S8x2048x2048 .f32) (b : Fin 8) (i : Fin 2048) (f : Fin 2048 → ℝ)
    (hd : ∀ j, d (ix3 b i j) = ((f j : ℝ) : EReal)) : argAll d (ix2 b i) = BitVec.ofNat 32 (first f).val :=
  (congrFun (argAll_def d) (ix2 b i)).trans (congrArg Prod.snd (argRow_eq d b i f hd))

/-! ## The gather -/

/-- A row number is never negative, so it stays as it is. -/
theorem wrapAll_eq (k : IVec S8x2048 32) (b : Fin 8) (i j : Fin 2048) (hk : k (ix2 b i) = BitVec.ofNat 32 j.val) :
    wrapAll k (ix2 b i) = BitVec.ofNat 32 j.val := by
  pointwise [wrapAll]
  rw [hk]
  have h : (BitVec.ofNat 32 j.val).slt 0#32 = false := by
    rw [show (0#32 : BitVec 32) = BitVec.ofNat 32 (0 : Fin 2048).val from rfl, slt_row]
    exact decide_eq_false (Fin.not_lt_zero j)
  simp [Scalar.select, IntOp.cmpi, h]

/-- The gather reads the row named by its index, within the same batch element. -/
theorem gather_eq (y : FVec Ideal S8x2048x32 .f32) (k : IVec S8x2048x1 32) (b : Fin 8) (i : Fin 2048) (c : Fin 32) (j : Fin 2048)
    (hk : k (ix3 b i 0) = BitVec.ofNat 32 j.val) :
    Host.gather gather_S8x2048x32_S8x2048x1_S8x2048x32_2_1_0_0_1_2_1132 y k (ix3 b i c) = y (ix3 b j c) := by
  have hsi : GatherDims.siIdx gather_S8x2048x32_S8x2048x1_S8x2048x32_2_1_0_0_1_2_1132 (ix3 b i c) ⟨0, by decide⟩ = ix3 b i 0 := by
    funext e
    match e with
    | ⟨0, _⟩ => rfl
    | ⟨1, _⟩ => rfl
    | ⟨2, _⟩ => rfl
  have hv : min (k (ix3 b i 0)).toInt.toNat 2047 = j.val := by
    rw [hk, toInt_row, Int.toNat_natCast]
    omega
  unfold Host.gather
  congr 1
  funext a
  refine Fin.ext ?_
  show GatherDims.start gather_S8x2048x32_S8x2048x1_S8x2048x32_2_1_0_0_1_2_1132 (ix3 b i c) k a
    + GatherDims.batchCoord gather_S8x2048x32_S8x2048x1_S8x2048x32_2_1_0_0_1_2_1132 (ix3 b i c) a
    + GatherDims.offCoord gather_S8x2048x32_S8x2048x1_S8x2048x32_2_1_0_0_1_2_1132 (ix3 b i c) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (by decide), GatherDims.offCoord_eq_zero _ _ _ (by decide)]
    unfold GatherDims.batchCoord
    rw [dif_pos (by decide), Nat.zero_add, Nat.add_zero]
    rfl
  · rw [GatherDims.batchCoord_eq_zero _ _ _ (by decide), GatherDims.offCoord_eq_zero _ _ _ (by decide)]
    unfold GatherDims.start
    rw [dif_pos (by decide), Nat.add_zero]
    exact (congrArg (fun z => min (k z).toInt.toNat 2047) hsi).trans hv
  · rw [GatherDims.batchCoord_eq_zero _ _ _ (by decide)]
    unfold GatherDims.start GatherDims.offCoord
    rw [dif_neg (by decide), dif_pos (by decide), Nat.zero_add]
    rfl

/-- The rows taken are the rows named. -/
theorem takeAll_eq (y : FVec Ideal S8x2048x32 .f32) (k : IVec S8x2048 32) (b : Fin 8) (i : Fin 2048) (c : Fin 32) (j : Fin 2048)
    (hk : k (ix2 b i) = BitVec.ofNat 32 j.val) : takeAll y k (ix3 b i c) = y (ix3 b j c) := by
  unfold takeAll
  refine gather_eq y _ b i c j ?_
  pointwise []
  exact wrapAll_eq k b i j hk

/-! ## Distances and differences -/

variable (x y : FVec Ideal S8x2048x32 .f32) (X Y : Fin 8 → Pts) (hx : ∀ b i k, x (ix3 b i k) = ((X b i k : ℝ) : EReal))
  (hy : ∀ b i k, y (ix3 b i k) = ((Y b i k : ℝ) : EReal))
include hx hy

/-- The reference's distances are the squared distances. -/
theorem distAll_eq (b : Fin 8) (i j : Fin 2048) : distAll x y (ix3 b i j) = ((sqd (X b i) (Y b j) : ℝ) : EReal) := by
  pointwise [distAll]
  simp only [hx, hy, ofBits_two, ← EReal.coe_mul]
  rw [coe_sum, coe_sum, coe_sum, ← EReal.coe_add, ← EReal.coe_sub]
  unfold sqd
  rw [Finset.mul_sum]
  simp only [mul_assoc]

/-- The reference's differences are those to the first nearest rows. -/
theorem gapAll_eq (b : Fin 8) (i : Fin 2048) (k : Fin 32) : gapAll x y (ix3 b i k) = ((gap (X b) (Y b) i k : ℝ) : EReal) := by
  pointwise [gapAll]
  rw [takeAll_eq y _ b i k _ (argAll_eq _ b i _ (distAll_eq x y X Y hx hy b i)), hx, hy, ← EReal.coe_sub]
  rfl

end Cert.ReferenceIdeal.Gen
-- ==== Proof.Value.RefLoss.lean ====
module

public import proofs.«01_k».proof.Proof.Value.RefNearest

/-! # What the reference computes on finite point sets

Each batch element's standard deviation of its differences, and the mean of the larger ones. -/

@[expose] public section

set_option maxRecDepth 16384

noncomputable section

open Idealize.ShloMosaic Idealize.ShloMosaic.TcCoe Idealize.SL.Sem
open Cert.Nearest

namespace Cert.ReferenceIdeal.Gen

/-- One less than the number of differences is 65535. -/
theorem count_eq : Ideal.ofBits .f32 0x47800000#32 - (FloatOps.sitofp .f32 1#32 : Ideal .f32) = ((65535 : ℝ) : EReal) := by
  have h : (FloatOps.sitofp .f32 1#32 : Ideal .f32) = ((1 : ℝ) : EReal) := by
    show (((1#32 : BitVec 32).toInt : ℝ) : EReal) = _
    norm_num
  rw [h, ofBits_count, ← EReal.coe_sub]
  norm_num

variable (g : FVec Ideal S8x2048x32 .f32) (G : Fin 8 → Fin 2048 → Fin 32 → ℝ)
  (hg : ∀ b i k, g (ix3 b i k) = ((G b i k : ℝ) : EReal))
include hg

/-- The deviations from the batch element's mean. -/
theorem devAll_eq (b : Fin 8) (i : Fin 2048) (k : Fin 32) :
    devAll g (ix3 b i k) = ((G b i k - (∑ i, ∑ k, G b i k) / 65536 : ℝ) : EReal) := by
  pointwise [devAll]
  simp only [hg, coe_sum]
  rw [ofBits_count, Ideal.div_coe (by norm_num), ← EReal.coe_mul, ← EReal.coe_sub, mul_one_div]

/-- The standard deviation of a batch element's differences. -/
theorem stdAll_eq (b : Fin 8) :
    stdAll g (ix1 b) = ((Real.sqrt ((∑ i, ∑ k, (G b i k - (∑ i, ∑ k, G b i k) / 65536) * (G b i k - (∑ i, ∑ k, G b i k) / 65536))
      / 65535) : ℝ) : EReal) := by
  pointwise [stdAll, countAll]
  rw [count_eq, if_pos (by rw [← EReal.coe_zero, EReal.coe_lt_coe_iff]; norm_num)]
  simp only [devAll_eq g G hg, ← EReal.coe_mul, coe_sum]
  rw [Ideal.div_coe (by norm_num), ← EReal.coe_mul, mul_one_div]
  exact coe_sqrt _ (div_nonneg (Finset.sum_nonneg fun i _ => Finset.sum_nonneg fun k _ => mul_self_nonneg _) (by norm_num))

omit hg

/-- On finite point sets the reference's result is the mean over the batch of the larger standard deviation. -/
theorem meanAll_eq (x y : FVec Ideal S8x2048x32 .f32) (X Y : Fin 8 → Pts) (hx : ∀ b i k, x (ix3 b i k) = ((X b i k : ℝ) : EReal))
    (hy : ∀ b i k, y (ix3 b i k) = ((Y b i k : ℝ) : EReal)) :
    meanAll x y = fun _ => ((∑ b, lossOf (X b) (Y b) / 8 : ℝ) : EReal) := by
  have hxy : ∀ b, stdAll (gapAll x y) (ix1 b) = ((spread (X b) (Y b) : ℝ) : EReal) := fun b =>
    stdAll_eq _ (fun b => gap (X b) (Y b)) (gapAll_eq x y X Y hx hy) b
  have hyx : ∀ b, stdAll (gapAll y x) (ix1 b) = ((spread (Y b) (X b) : ℝ) : EReal) := fun b =>
    stdAll_eq _ (fun b => gap (Y b) (X b)) (gapAll_eq y x Y X hy hx) b
  funext z
  pointwise [meanAll]
  simp only [hxy, hyx, coe_max, coe_sum]
  rw [ofBits_eight, Ideal.div_coe (by norm_num), ← EReal.coe_mul, mul_one_div, Finset.sum_div]
  rfl

end Cert.ReferenceIdeal.Gen
-- ==== Proof.Value.Finite.lean ====
module

public import proofs.«01_k».proof.Pre_finite
public import proofs.«01_k».proof.Proof.Value.Nearest

/-! # What the precondition says of the arguments

Where the predicate is all ones every entry of both arguments is a real number. -/

@[expose] public section

noncomputable section

open Idealize.ShloMosaic
open Cert.Nearest

namespace Cert.Pre_finite

/-- The predicate's shape condition. -/
instance facts : Facts where
  bcast_S_S8x2048x32 := by decide

/-- A value whose absolute value is below infinity is a real number. -/
theorem real_of_abs_lt (a : EReal) (h : max a (-a) < ⊤) : a = ((a.toReal : ℝ) : EReal) := by
  have h1 : a ≠ ⊤ := ((le_max_left a (-a)).trans_lt h).ne
  have h2 : a ≠ ⊥ := by
    rintro rfl
    exact absurd ((le_max_right (⊥ : EReal) (-⊥)).trans_lt h) (by simp)
  exact (EReal.coe_toReal h1 h2).symm

/-- Two one-bit words are both one when their conjunction is. -/
theorem both_one (a b : BitVec 1) (h : a &&& b = 1#1) : a = 1#1 ∧ b = 1#1 := by
  revert a b
  decide

/-- A comparison below infinity that reads one holds. -/
theorem lt_of_one (a b : EReal) (h : BitVec.ofBool (decide (a < b)) = 1#1) : a < b := by
  by_contra hn
  rw [decide_eq_false hn] at h
  exact absurd h (by decide)

/-- Under the precondition every entry is the real number it reads as. -/
theorem real (x y : FVec Ideal S8x2048x32 .f32) (h : fn (F := Ideal) x y = fun _ => 1#1) :
    (∀ i, x i = (((x i : EReal).toReal : ℝ) : EReal)) ∧ ∀ i, y i = (((y i : EReal).toReal : ℝ) : EReal) := by
  have hb : ∀ i, max (x i : EReal) (-x i) < ⊤ ∧ max (y i : EReal) (-y i) < ⊤ := fun i => by
    obtain ⟨h1, h2⟩ := both_one _ _ (congrFun h i)
    refine ⟨lt_of_one _ _ ?_, lt_of_one _ _ ?_⟩
    · rw [← ofBits_inf]; exact h1
    · rw [← ofBits_inf]; exact h2
  exact ⟨fun i => real_of_abs_lt _ (hb i).1, fun i => real_of_abs_lt _ (hb i).2⟩

end Cert.Pre_finite
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Value.KernelArray
public import proofs.«01_k».proof.Proof.Value.RefLoss
public import proofs.«01_k».proof.Proof.Value.Finite

/-! # The claims, proved

The frames, and the equation: on finite inputs both programs leave the mean over the batch of the larger standard deviation. -/

@[expose] public section

noncomputable section

namespace Cert.Proof

open Idealize.ShloMosaic Idealize.SL.Sem Cert.Nearest

/-- A batch of point sets read as real numbers. -/
def points (x : (⟨3, ![8, 2048, 32]⟩ : Shape).Idx → Ideal .f32) : Fin 8 → Pts := fun b i k => (x (ix3 b i k) : EReal).toReal

/-- On finite inputs the kernel and the reference leave the same loss. -/
theorem algebraic : algebraic_KernelIdeal_ReferenceIdeal_pre_finite := by
  intro m g m' g' hpre hag
  have hfin := fun c => Cert.Pre_finite.real _ _ (hpre c)
  refine ⟨_, Cert.KernelIdeal.Gen.run m g (fun c => points (m ((c.tc : Thread Cert.KernelIdeal.nD Cert.KernelIdeal.τ).loc Cert.KernelIdeal.main_arg0)))
    (fun c => points (m ((c.tc : Thread Cert.KernelIdeal.nD Cert.KernelIdeal.τ).loc Cert.KernelIdeal.main_arg1)))
    (fun c b i k => (hfin c).1 _) (fun c b i k => (hfin c).2 _), ?_⟩
  refine (θ_run _ _ _).mono (fun r h c => ⟨(h c).1.trans ?_, (h c).2⟩) (Cert.ReferenceIdeal.Gen.run m' g')
  exact Cert.ReferenceIdeal.Gen.meanAll_eq _ _ _ _
    (fun b i k => (congrFun (hag c).1 _).trans ((hfin c).1 _)) (fun b i k => (congrFun (hag c).2 _).trans ((hfin c).2 _))

/-- Every claim of the certificate. -/
theorem claim : Cert.Claim :=
  ⟨Cert.Kernel.Gen.facts, Cert.KernelIdeal.Gen.facts, Cert.ReferenceIdeal.Gen.facts, Cert.Pre_finite.facts,
    fun m g _ => Cert.Kernel.Gen.frame m g, fun m g _ => Cert.KernelIdeal.Gen.frame m g, fun m g _ => Cert.KernelIdeal.Gen.frame m g,
    fun m g _ => Cert.ReferenceIdeal.Gen.frame m g, fun m g _ => Cert.ReferenceIdeal.Gen.frame m g, trivial, algebraic⟩

end Cert.Proof

end
